-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_steps" .f32 0x3D23D70A#32 ((25⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x784 : Shape := ⟨2, ![8192, 784]⟩
abbrev S1000x784 : Shape := ⟨2, ![1000, 784]⟩
abbrev S1000x1000 : Shape := ⟨2, ![1000, 1000]⟩
abbrev S_ : Shape := ⟨0, ![]⟩
abbrev S8192x896 : Shape := ⟨2, ![8192, 896]⟩
abbrev S784x1000 : Shape := ⟨2, ![784, 1000]⟩
abbrev S896x1024 : Shape := ⟨2, ![896, 1024]⟩
abbrev S1024x1024 : Shape := ⟨2, ![1024, 1024]⟩
abbrev S8192x1024 : Shape := ⟨2, ![8192, 1024]⟩
abbrev S256x896 : Shape := ⟨2, ![256, 896]⟩
abbrev S256x1024 : Shape := ⟨2, ![256, 1024]⟩
abbrev S128x896 : Shape := ⟨2, ![128, 896]⟩
abbrev S128x1024 : Shape := ⟨2, ![128, 1024]⟩
abbrev S8192x1000 : Shape := ⟨2, ![8192, 1000]⟩

abbrev nBuf : Space → Nat
  | .hbm => 16
  | .vmem => 6
  | .smem => 0
  | _ => 0

abbrev bufTy : (tb : Table) → Fin (tcTables nBuf tb) → BufTy
  | .hbm, ⟨0, _⟩ => ⟨S8192x784, .f32⟩
  | .hbm, ⟨1, _⟩ => ⟨S1000x784, .f32⟩
  | .hbm, ⟨2, _⟩ => ⟨S1000x1000, .f32⟩
  | .hbm, ⟨3, _⟩ => ⟨S_, .i32⟩
  | .hbm, ⟨4, _⟩ => ⟨S_, .f32⟩
  | .hbm, ⟨5, _⟩ => ⟨S8192x896, .f32⟩
  | .hbm, ⟨6, _⟩ => ⟨S784x1000, .f32⟩
  | .hbm, ⟨7, _⟩ => ⟨S_, .i32⟩
  | .hbm, ⟨8, _⟩ => ⟨S_, .f32⟩
  | .hbm, ⟨9, _⟩ => ⟨S896x1024, .f32⟩
  | .hbm, ⟨10, _⟩ => ⟨S1000x1000, .f32⟩
  | .hbm, ⟨11, _⟩ => ⟨S_, .i32⟩
  | .hbm, ⟨12, _⟩ => ⟨S_, .f32⟩
  | .hbm, ⟨13, _⟩ => ⟨S1024x1024, .f32⟩
  | .hbm, ⟨14, _⟩ => ⟨S8192x1024, .f32⟩
  | .hbm, ⟨15, _⟩ => ⟨S8192x1000, .f32⟩
  | .local _ .vmem, ⟨0, _⟩ => ⟨S256x896, .f32⟩
  | .local _ .vmem, ⟨1, _⟩ => ⟨S256x896, .f32⟩
  | .local _ .vmem, ⟨2, _⟩ => ⟨S896x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S896x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_steps" => some ((25⁻¹ : ℝ) : EReal)
  | _ => none
-- ==== ReferenceIdeal.lean ====
abbrev S8192x784 : Shape := ⟨2, ![8192, 784]⟩
abbrev S1000x784 : Shape := ⟨2, ![1000, 784]⟩
abbrev S1000x1000 : Shape := ⟨2, ![1000, 1000]⟩
abbrev S784x1000 : Shape := ⟨2, ![784, 1000]⟩
abbrev S8192x1000 : Shape := ⟨2, ![8192, 1000]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8192x784, .f32⟩
  | .hbm, ⟨1, _⟩ => ⟨S1000x784, .f32⟩
  | .hbm, ⟨2, _⟩ => ⟨S1000x1000, .f32⟩
  | .hbm, ⟨3, _⟩ => ⟨S784x1000, .f32⟩
  | .hbm, ⟨4, _⟩ => ⟨S8192x1000, .f32⟩
  | .hbm, ⟨5, _⟩ => ⟨S_, .f32⟩
  | .hbm, ⟨6, _⟩ => ⟨S8192x1000, .f32⟩
  | .hbm, ⟨7, _⟩ => ⟨S_, .i32⟩
  | .hbm, ⟨8, _⟩ => ⟨S1000x1000, .f32⟩
  | .hbm, ⟨9, _⟩ => ⟨S8192x1000, .f32⟩
  | .hbm, ⟨10, _⟩ => ⟨S_, .i32⟩
  | .hbm, ⟨11, _⟩ => ⟨S8192x1000, .f32⟩
  | .hbm, ⟨12, _⟩ => ⟨S8192x1000, .f32⟩
  | .hbm, ⟨13, _⟩ => ⟨S8192x1000, .f32⟩
  | .hbm, ⟨14, _⟩ => ⟨S_, .i32⟩
  | .hbm, ⟨15, _⟩ => ⟨S_, .i1⟩
  | .hbm, ⟨16, _⟩ => ⟨S1000x1000, .f32⟩
  | .hbm, ⟨17, _⟩ => ⟨S8192x1000, .f32⟩
  | .hbm, ⟨18, _⟩ => ⟨S8192x1000, .f32⟩
  | .hbm, ⟨19, _⟩ => ⟨S_, .f32⟩
  | .hbm, ⟨20, _⟩ => ⟨S8192x1000, .f32⟩
  | .hbm, ⟨21, _⟩ => ⟨S8192x1000, .f32⟩
  | .hbm, ⟨22, _⟩ => ⟨S_, .f32⟩
  | .hbm, ⟨23, _⟩ => ⟨S8192x1000, .f32⟩
  | .hbm, ⟨24, _⟩ => ⟨S8192x1000, .i1⟩
  | .hbm, ⟨25, _⟩ => ⟨S8192x1000, .f32⟩
  | .hbm, ⟨26, _⟩ => ⟨S_, .f32⟩
  | .hbm, ⟨27, _⟩ => ⟨S8192x1000, .f32⟩
  | .hbm, ⟨28, _⟩ => ⟨S8192x1000, .f32⟩
  | .hbm, ⟨29, _⟩ => ⟨S8192x1000, .f32⟩
  | .hbm, ⟨30, _⟩ => ⟨S_, .f32⟩
  | .hbm, ⟨31, _⟩ => ⟨S8192x1000, .f32⟩
  | .hbm, ⟨32, _⟩ => ⟨S8192x1000, .f32⟩
  | .hbm, ⟨33, _⟩ => ⟨S8192x1000, .f32⟩
  | .hbm, ⟨34, _⟩ => ⟨S_, .f32⟩
  | .hbm, ⟨35, _⟩ => ⟨S8192x1000, .f32⟩
  | .hbm, ⟨36, _⟩ => ⟨S8192x1000, .f32⟩
  | .hbm, ⟨37, _⟩ => ⟨S_, .f32⟩
  | .hbm, ⟨38, _⟩ => ⟨S8192x1000, .f32⟩
  | .hbm, ⟨39, _⟩ => ⟨S8192x1000, .i1⟩
  | .hbm, ⟨40, _⟩ => ⟨S8192x1000, .f32⟩
  | .hbm, ⟨41, _⟩ => ⟨S8192x1000, .f32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S8192x1000, .f32⟩
  | .hbm, ⟨46, _⟩ => ⟨S8192x1000, .f32⟩
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_while0c_c_6 : Ref sig .tc := ⟨.hbm, 14, rfl⟩
abbrev main_while0c_v6 : Ref sig .tc := ⟨.hbm, 15, rfl⟩
abbrev main_while0b_v6 : Ref sig .tc := ⟨.hbm, 16, rfl⟩
abbrev main_while0b_v7 : Ref sig .tc := ⟨.hbm, 17, rfl⟩
abbrev main_while0b_v8 : Ref sig .tc := ⟨.hbm, 18, rfl⟩
abbrev main_while0b_cst_6 : Ref sig .tc := ⟨.hbm, 19, rfl⟩
abbrev main_while0b_v9 : Ref sig .tc := ⟨.hbm, 20, rfl⟩
abbrev main_while0b_v10 : Ref sig .tc := ⟨.hbm, 21, rfl⟩
abbrev main_while0b_cst_7 : Ref sig .tc := ⟨.hbm, 22, rfl⟩
abbrev main_while0b_v11 : Ref sig .tc := ⟨.hbm, 23, rfl⟩
abbrev main_while0b_v12 : Ref sig .tc := ⟨.hbm, 24, rfl⟩
abbrev main_while0b_v13 : Ref sig .tc := ⟨.hbm, 25, rfl⟩
abbrev main_while0b_cst_8 : Ref sig .tc := ⟨.hbm, 26, rfl⟩
abbrev main_while0b_v14 : Ref sig .tc := ⟨.hbm, 27, rfl⟩
abbrev main_while0b_v15 : Ref sig .tc := ⟨.hbm, 28, rfl⟩
abbrev main_while0b_v16 : Ref sig .tc := ⟨.hbm, 29, rfl⟩
abbrev main_while0b_cst_9 : Ref sig .tc := ⟨.hbm, 30, rfl⟩
abbrev main_while0b_v17 : Ref sig .tc := ⟨.hbm, 31, rfl⟩
abbrev main_while0b_v18 : Ref sig .tc := ⟨.hbm, 32, rfl⟩
abbrev main_while0b_v19 : Ref sig .tc := ⟨.hbm, 33, rfl⟩
abbrev main_while0b_cst_10 : Ref sig .tc := ⟨.hbm, 34, rfl⟩
abbrev main_while0b_v20 : Ref sig .tc := ⟨.hbm, 35, rfl⟩
abbrev main_while0b_v21 : Ref sig .tc := ⟨.hbm, 36, rfl⟩
abbrev main_while0b_cst_11 : Ref sig .tc := ⟨.hbm, 37, rfl⟩
abbrev main_while0b_v22 : Ref sig .tc := ⟨.hbm, 38, rfl⟩
abbrev main_while0b_v23 : Ref sig .tc := ⟨.hbm, 39, rfl⟩
abbrev main_while0b_v24 : Ref sig .tc := ⟨.hbm, 40, rfl⟩
abbrev main_while0b_v25 : Ref sig .tc := ⟨.hbm, 41, rfl⟩
abbrev main_while0b_c_12 : Ref sig .tc := ⟨.hbm, 42, rfl⟩
abbrev main_while0b_v26 : Ref sig .tc := ⟨.hbm, 43, rfl⟩
abbrev main_cst_0 : Ref sig .tc := ⟨.hbm, 44, rfl⟩
abbrev main_v4 : Ref sig .tc := ⟨.hbm, 45, rfl⟩
abbrev main_v5 : Ref sig .tc := ⟨.hbm, 46, rfl⟩

abbrev nD : Nat := 1
abbrev τ : Topo := Topo.v7x

variable {F : FTy → Type} [FloatOps F]

abbrev main_while0_count : Scf.Loop 32 := ⟨0#32, 25#32, 1#32⟩
-- ==== Proof.Body.lean ====
module

public import proofs.«01_k».proof.Proof.Gen.KernelIdeal.Frame

@[expose] public section

noncomputable section

/-! The kernel's body, written as it stands: each half of a row block repeats one step 24 times, and what the halves
    store is the same function of their input current and the recurrent weights. -/

namespace Cert.KernelIdeal.Spikes

open Idealize.ShloMosaic Idealize.SL.Sem Cert.KernelIdeal.Facts₀

variable {F : FTy → Type} [FloatOps F] [Named F]

/-- The threshold, at every entry of a half block. -/
abbrev ones : FVec F S128x1024 .f32 := broadcast S128x1024 (Scalar.ofBits .f32 0x3F800000#32 : F .f32)
/-- Zero, at every entry. -/
abbrev zeros : FVec F S128x1024 .f32 := broadcast S128x1024 (Scalar.ofBits .f32 0x00000000#32 : F .f32)
/-- The decay factor, at every entry. -/
abbrev betas : FVec F S128x1024 .f32 := broadcast S128x1024 (Scalar.ofBits .f32 0x3F733333#32 : F .f32)

/-- The spikes of the potentials `mem`: one where the potential less the threshold is above zero, else zero. -/
def spk (mem : FVec F S128x1024 .f32) : FVec F S128x1024 .f32 :=
  sitofp .f32 (extui 32 (cmpf .ogt (subf mem ones) zeros) natLt_1_32)

/-- The spikes in the format the kernel counts them in. -/
def spk16 (mem : FVec F S128x1024 .f32) : FVec F S128x1024 .bf16 :=
  truncf .bf16 (spk mem) bitsLt_bf16_f32

/-- The potentials one step later, from the input current `ic` and the recurrent weights `w`. -/
def next (ic : FVec F S128x1024 .f32) (w : FVec F S1024x1024 .f32) (mem : FVec F S128x1024 .f32) : FVec F S128x1024 .f32 :=
  subf (addf (mulf betas mem)
    (addf ic (matmul dot_S128x1024_S1024x1024_S128x1024_1_0_0_1_n_n none (spk mem) w (constant S128x1024 .f32 0x00000000#32))))
    (mulf (spk mem) ones)

/-- The potentials after `n` further steps; they start at the input current. -/
def mem (ic : FVec F S128x1024 .f32) (w : FVec F S1024x1024 .f32) : ℕ → FVec F S128x1024 .f32
  | 0 => ic
  | n + 1 => next ic w (mem ic w n)

/-- The spikes counted from the start up to step `n`. -/
def cnt (ic : FVec F S128x1024 .f32) (w : FVec F S1024x1024 .f32) : ℕ → FVec F S128x1024 .bf16
  | 0 => spk16 ic
  | n + 1 => addf (cnt ic w n) (spk16 (mem ic w (n + 1)))

/-- A spike count times the named constant. -/
def rate (c : FVec F S128x1024 .bf16) : FVec F S128x1024 .f32 :=
  mulf (extf .f32 c bitsLt_bf16_f32) (broadcast S128x1024 (Named.named κ "inv_steps" 0x3D23D70A#32 : F .f32))

open Gen in
/-- The block the body stores: its first and its second half, each the rate of the count after 24 further steps. -/
theorem out_eq (x0 : Vec F S256x896 .f32) (x1 : Vec F S896x1024 .f32) (x2 : Vec F S1024x1024 .f32) :
    out0_3 x0 x1 x2 = View.canon [
      ⟨r0_5, rate (cnt (k0_pay4 (View.ld x0 r0_2) (View.ld x1 r0_1)) (k0_pay9 (View.ld x2 r0_3)) 24)⟩,
      ⟨r0_4, rate (cnt (k0_pay3 (View.ld x0 r0_0) (View.ld x1 r0_1)) (k0_pay9 (View.ld x2 r0_3)) 24)⟩] := by
  rfl

end Cert.KernelIdeal.Spikes

end
-- ==== Proof.Consts.lean ====
module

public import Idealize.ShloMosaic.PureOps.Ideal

@[expose] public section

noncomputable section

/-! The float words the two programs spell, read as extended reals. The decay factor's word is left alone: both
    programs spell the same word. -/

namespace Cert.Consts

open Idealize.ShloMosaic

/-- The word `0x00000000` is zero. -/
theorem zero : Ideal.ofBits .f32 0x00000000#32 = 0 := by
  simp [Ideal.ofBits, Ideal.ieee, -EReal.coe_mul]

/-- The word `0x3F800000` is one. -/
theorem one : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

/-- The word `0x41C80000` is twenty-five. -/
theorem steps : Ideal.ofBits .f32 0x41C80000#32 = ((25 : ℝ) : EReal) := by
  simp [Ideal.ofBits, Ideal.ieee, -EReal.coe_mul]; norm_num

end Cert.Consts

end
-- ==== Proof.Spec.lean ====
module

public import proofs.«01_k».proof.Proof.Consts
public import Idealize.ShloMosaic.Lib.Pointwise.Index

@[expose] public section

noncomputable section

/-! The mathematics both programs compute, for one row of the batch: 1000 neurons with a constant input current `I`,
    the recurrent weight `W j k` from neuron `k` to neuron `j`, and the membrane potentials and spike counts step by
    step. -/

namespace Cert.Spec

open Idealize.ShloMosaic

/-- The decay factor of a membrane potential, as the programs' word for it reads. -/
def decay : EReal := Ideal.ofBits .f32 0x3F733333#32

/-- One if the potential is above the threshold 1, else zero. -/
def spike (v : EReal) : EReal := if 0 < v - 1 then 1 else 0

/-- A potential of zero gives no spike. -/
theorem spike_zero : spike 0 = 0 := by
  unfold spike
  rw [if_neg]
  rw [zero_sub, not_lt, EReal.neg_le, neg_zero]
  exact zero_le_one

/-- The potential of neuron `j` after one step from potentials `v`: decayed, driven by the input current and the
    recurrent current of the spikes of `v`, and lowered by one where `v` spiked. -/
def next (I : Fin 1000 → EReal) (W : Fin 1000 → Fin 1000 → EReal) (v : Fin 1000 → EReal) (j : Fin 1000) : EReal :=
  decay * v j + (I j + ∑ k, spike (v k) * W j k) - spike (v j)

/-- The potentials after step `n + 1`; after the first step, from rest, they are the input current. -/
def pot (I : Fin 1000 → EReal) (W : Fin 1000 → Fin 1000 → EReal) : ℕ → Fin 1000 → EReal
  | 0 => I
  | n + 1 => next I W (pot I W n)

/-- The spikes counted over the first `n + 1` steps. -/
def count (I : Fin 1000 → EReal) (W : Fin 1000 → Fin 1000 → EReal) : ℕ → Fin 1000 → EReal
  | 0 => fun j => spike (I j)
  | n + 1 => fun j => count I W n j + spike (pot I W (n + 1) j)

/-- The first step, from rest, gives the input current. -/
theorem next_rest (I : Fin 1000 → EReal) (W : Fin 1000 → Fin 1000 → EReal) (j : Fin 1000) :
    next I W (fun _ => 0) j = I j := by
  unfold next
  simp [spike_zero]

/-- Row `r`'s input current into neuron `j`: the row of the input against the neuron's input weights. -/
def current (x : (⟨2, ![8192, 784]⟩ : Shape).Idx → EReal) (win : (⟨2, ![1000, 784]⟩ : Shape).Idx → EReal)
    (r : Fin 8192) (j : Fin 1000) : EReal :=
  ∑ k : Fin 784, x (ix2 r k) * win (ix2 j k)

/-- The recurrent weight from neuron `k` to neuron `j`. -/
def weight (wrec : (⟨2, ![1000, 1000]⟩ : Shape).Idx → EReal) (j k : Fin 1000) : EReal := wrec (ix2 j k)

/-- Neuron `j`'s firing rate on row `r`: its spikes over 25 steps, over 25. -/
def result (x : (⟨2, ![8192, 784]⟩ : Shape).Idx → EReal) (win : (⟨2, ![1000, 784]⟩ : Shape).Idx → EReal)
    (wrec : (⟨2, ![1000, 1000]⟩ : Shape).Idx → EReal) (r : Fin 8192) (j : Fin 1000) : EReal :=
  count (current x win r) (weight wrec) 24 j * (((25 : ℝ)⁻¹ : ℝ) : EReal)

end Cert.Spec

end
-- ==== Proof.BodyValue.lean ====
module

public import proofs.«01_k».proof.Proof.Body
public import proofs.«01_k».proof.Proof.Spec
public import Idealize.ShloMosaic.Lib.Pointwise

@[expose] public section

set_option maxRecDepth 16384

noncomputable section

/-! What one half of a block computes on the extended reals, read at a row and a column of the 1000 real neurons. The
    24 padding columns never matter: the recurrent weights out of a padding neuron are zero. -/

namespace Cert.KernelIdeal.Spikes

open Idealize.ShloMosaic Idealize.SL.Sem Cert.Spec

/-- A spike bit, widened and converted, is the specification's spike. -/
theorem spk_apply (v : FVec Ideal S128x1024 .f32) (r : Fin 128) (j : Fin 1024) :
    spk v (ix2 r j) = spike (v (ix2 r j)) := by
  pointwise [spk]
  unfold spike
  by_cases h : 0 < v (ix2 r j) - 1
  · rw [if_pos h, decide_eq_true h]
    show ((((BitVec.setWidth 32 (BitVec.ofBool true)).toInt : ℤ) : ℝ) : EReal) = 1
    rw [show (BitVec.setWidth 32 (BitVec.ofBool true)).toInt = 1 by decide]
    simp
  · rw [if_neg h, decide_eq_false h]
    show ((((BitVec.setWidth 32 (BitVec.ofBool false)).toInt : ℤ) : ℝ) : EReal) = 0
    rw [show (BitVec.setWidth 32 (BitVec.ofBool false)).toInt = 0 by decide]
    simp

/-- One step at an index: the recurrent current is a sum over the 1024 columns. -/
theorem next_apply (ic : FVec Ideal S128x1024 .f32) (w : FVec Ideal S1024x1024 .f32) (v : FVec Ideal S128x1024 .f32)
    (r : Fin 128) (j : Fin 1024) :
    next ic w v (ix2 r j)
      = decay * v (ix2 r j) + (ic (ix2 r j) + ∑ k : Fin 1024, spike (v (ix2 r k)) * w (ix2 k j)) - spike (v (ix2 r j)) := by
  pointwise [next]
  simp only [spk_apply]
  rfl

/-- The input current of the first half at an index: a sum over the 896 columns of the padded input. -/
theorem cur3_apply (x : Vec Ideal S128x896 .f32) (w : Vec Ideal S896x1024 .f32) (r : Fin 128) (j : Fin 1024) :
    Gen.k0_pay3 x w (ix2 r j) = ∑ k : Fin 896, x (ix2 r k) * w (ix2 k j) := by
  pointwise [Gen.k0_pay3]

/-- The input current of the second half, likewise. -/
theorem cur4_apply (x : Vec Ideal S128x896 .f32) (w : Vec Ideal S896x1024 .f32) (r : Fin 128) (j : Fin 1024) :
    Gen.k0_pay4 x w (ix2 r j) = ∑ k : Fin 896, x (ix2 r k) * w (ix2 k j) := by
  pointwise [Gen.k0_pay4]

/-- The recurrent weights enter the steps as they are loaded. -/
theorem wrec_apply (w : Vec Ideal S1024x1024 .f32) (k j : Fin 1024) : Gen.k0_pay9 w (ix2 k j) = w (ix2 k j) := by
  pointwise [Gen.k0_pay9]

/-- A column of a real neuron, among the 1024. -/
abbrev col (j : Fin 1000) : Fin 1024 := j.castLE (by omega)

/-- A sum over `m` terms of which those from `n` on are zero is the sum of the first `n`. -/
theorem sum_trunc {m n : ℕ} (h : n ≤ m) (f : Fin m → EReal) (hf : ∀ k : Fin m, n ≤ (k : ℕ) → f k = 0) :
    ∑ k, f k = ∑ k : Fin n, f (k.castLE h) := by
  obtain ⟨d, rfl⟩ := Nat.exists_eq_add_of_le h
  rw [Fin.sum_univ_add, Finset.sum_eq_zero (s := (Finset.univ : Finset (Fin d))) fun k _ => hf _ (by simp), add_zero]
  rfl

variable {ic : FVec Ideal S128x1024 .f32} {w : FVec Ideal S1024x1024 .f32} {r : Fin 128}
variable {I : Fin 1000 → EReal} {W : Fin 1000 → Fin 1000 → EReal}

/-- On the real neurons the potentials of a row are the specification's, at every step. -/
theorem mem_apply (hI : ∀ j, ic (ix2 r (col j)) = I j) (hW : ∀ k j, w (ix2 (col k) (col j)) = W j k)
    (hpad : ∀ (k : Fin 1024) j, 1000 ≤ (k : ℕ) → w (ix2 k (col j)) = 0) :
    ∀ (n : ℕ) (j : Fin 1000), mem ic w n (ix2 r (col j)) = pot I W n j
  | 0, j => hI j
  | n + 1, j => by
    show Spikes.next ic w (mem ic w n) (ix2 r (col j)) = Spec.next I W (pot I W n) j
    rw [next_apply, mem_apply hI hW hpad n j, hI j,
      sum_trunc (by omega : 1000 ≤ 1024) _ fun k hk => by rw [hpad k j hk, mul_zero]]
    unfold Spec.next
    congr 3
    exact Finset.sum_congr rfl fun k _ => by rw [mem_apply hI hW hpad n k, hW k j]

/-- On the real neurons the spike counts of a row are the specification's. -/
theorem cnt_apply (hI : ∀ j, ic (ix2 r (col j)) = I j) (hW : ∀ k j, w (ix2 (col k) (col j)) = W j k)
    (hpad : ∀ (k : Fin 1024) j, 1000 ≤ (k : ℕ) → w (ix2 k (col j)) = 0) :
    ∀ (n : ℕ) (j : Fin 1000), cnt ic w n (ix2 r (col j)) = count I W n j
  | 0, j => (spk_apply ic r (col j)).trans (by rw [hI j]; rfl)
  | n + 1, j => by
    show cnt ic w n (ix2 r (col j)) + spk (mem ic w (n + 1)) (ix2 r (col j)) = count I W n j + spike (pot I W (n + 1) j)
    rw [cnt_apply hI hW hpad n j, spk_apply, mem_apply hI hW hpad]

/-- The table of named constants has `inv_steps` at one twenty-fifth. -/
theorem kappa_steps : κ "inv_steps" = some (((25 : ℝ)⁻¹ : ℝ) : EReal) := by
  unfold κ
  rfl

/-- The named constant is one twenty-fifth. -/
theorem inv_steps : Named.named (F := Ideal) (φ := .f32) κ "inv_steps" 0x3D23D70A#32 = (((25 : ℝ)⁻¹ : ℝ) : EReal) := by
  exact IdealRules.named_const.ideal_named_scalar _ _ _ _ kappa_steps

/-- The rate is the count times the named constant, one twenty-fifth. -/
theorem rate_apply (c : FVec Ideal S128x1024 .bf16) (r : Fin 128) (j : Fin 1024) :
    rate c (ix2 r j) = c (ix2 r j) * (((25 : ℝ)⁻¹ : ℝ) : EReal) := by
  pointwise [rate]
  exact congrArg (c (ix2 r j) * ·) inv_steps

end Cert.KernelIdeal.Spikes

end
-- ==== Proof.BlockValue.lean ====
module

public import proofs.«01_k».proof.Proof.BodyValue
public import Idealize.ShloMosaic.Lib.Pipeline.ValueKit

@[expose] public section

set_option maxRecDepth 16384

noncomputable section

/-! What one block of the result holds: its two halves are the same function of the row, so at every row and every real
    neuron the block is the specification's count times one twenty-fifth. -/

namespace Cert.KernelIdeal.Spikes

open Idealize.ShloMosaic Idealize.SL.Sem Cert.Spec

variable (X : Vec Ideal S256x896 .f32) (U : Vec Ideal S896x1024 .f32) (R : Vec Ideal S1024x1024 .f32)

/-- Row `r` of a block's first half, among its 256 rows. -/
abbrev top (r : Fin 128) : Fin 256 := ⟨r, by omega⟩
/-- Row `r` of a block's second half. -/
abbrev bottom (r : Fin 128) : Fin 256 := ⟨128 + r, by omega⟩

/-- The input weights, loaded whole. -/
theorem ld_win (k : Fin 896) (j : Fin 1024) : View.ld U Gen.r0_1 (ix2 k j) = U (ix2 k j) := by
  pointwise []

/-- The recurrent weights, loaded whole. -/
theorem ld_wrec (k j : Fin 1024) : Gen.k0_pay9 (View.ld R Gen.r0_3) (ix2 k j) = R (ix2 k j) := by
  rw [wrec_apply]
  pointwise []

/-- Row `r` of the first half of the input block. -/
theorem ld_top (r : Fin 128) (k : Fin 896) : View.ld X Gen.r0_0 (ix2 r k) = X (ix2 (top r) k) := by
  pointwise []

/-- Row `r` of the second half of the input block. -/
theorem ld_bottom (r : Fin 128) (k : Fin 896) : View.ld X Gen.r0_2 (ix2 r k) = X (ix2 (bottom r) k) := by
  pointwise []

variable {X U R} {I : Fin 1000 → EReal} {W : Fin 1000 → Fin 1000 → EReal}

/-- The block at row `a` and neuron `j`, where `I` is that row's input current and `W` the recurrent weights. -/
theorem block_apply (a : Fin 256) (hI : ∀ j, ∑ k : Fin 896, X (ix2 a k) * U (ix2 k (col j)) = I j)
    (hW : ∀ k j, R (ix2 (col k) (col j)) = W j k)
    (hpad : ∀ (k : Fin 1024) j, 1000 ≤ (k : ℕ) → R (ix2 k (col j)) = 0) (j : Fin 1000) :
    Gen.out0_3 X U R (ix2 a (col j)) = count I W 24 j * (((25 : ℝ)⁻¹ : ℝ) : EReal) := by
  rw [out_eq]
  by_cases ha : (a : ℕ) < 128
  · obtain ⟨r, rfl⟩ : ∃ r : Fin 128, a = top r := ⟨⟨a, ha⟩, rfl⟩
    rw [View.canon_cons_of_not_mem _ _ (by
        rw [Rect.mem_set_unit]
        intro h
        have := (h 0).1
        exact absurd this (by show ¬ 128 ≤ (r : ℕ); omega)),
      show (ix2 (top r) (col j) : S256x1024.Idx) = Gen.r0_4.emb (ix2 r (col j)) by blk_ext,
      View.canon_cons_emb, rate_apply, cnt_apply (I := I) (W := W)]
    · intro j
      rw [cur3_apply, ← hI j]
      exact Finset.sum_congr rfl fun k _ => by rw [ld_top, ld_win]
    · intro k j
      rw [ld_wrec, hW]
    · intro k j hk
      rw [ld_wrec, hpad k j hk]
  · obtain ⟨r, rfl⟩ : ∃ r : Fin 128, a = bottom r :=
      ⟨⟨a - 128, by omega⟩, Fin.ext (by show (a : ℕ) = 128 + (a - 128); omega)⟩
    rw [show (ix2 (bottom r) (col j) : S256x1024.Idx) = Gen.r0_5.emb (ix2 r (col j)) by blk_ext,
      View.canon_cons_emb, rate_apply, cnt_apply (I := I) (W := W)]
    · intro j
      rw [cur4_apply, ← hI j]
      exact Finset.sum_congr rfl fun k _ => by rw [ld_bottom, ld_win]
    · intro k j
      rw [ld_wrec, hW]
    · intro k j hk
      rw [ld_wrec, hpad k j hk]

end Cert.KernelIdeal.Spikes

end
-- ==== Proof.Host.lean ====
module

public import proofs.«01_k».proof.Proof.Gen.KernelIdeal.Frame
public import Idealize.ShloMosaic.Lib.Pointwise
public import Idealize.ShloMosaic.Lib.Claim

@[expose] public section

set_option maxRecDepth 16384

noncomputable section

/-! The padded arrays the host operations hand the kernel: each holds its argument (the weights transposed) in the
    corner the argument fills, and zero in the padding. -/

namespace Cert.KernelIdeal.Padded

open Idealize.ShloMosaic Idealize.ShloMosaic.TcCoe Idealize.SL.Sem Cert.KernelIdeal.Facts₀

variable {F : FTy → Type} [FloatOps F] [Named F]

/-- The input with 112 columns of zeros on the right. -/
def xPad (x : FVec F S8192x784 .f32) : FVec F S8192x896 .f32 :=
  pad S8192x896 ![0, 0] ![0, 112] ![0, 0] x (sitofp .f32 (constantI S_ 32 0#32)) pads_S8192x784_S8192x896_000_01120 h_S_

/-- The input weights transposed, with 112 rows and 24 columns of zeros. -/
def winPad (w : FVec F S1000x784 .f32) : FVec F S896x1024 .f32 :=
  pad S896x1024 ![0, 0] ![112, 24] ![0, 0] (transpose S784x1000 [1, 0] w transposes_S1000x784_S784x1000_1_0)
    (sitofp .f32 (constantI S_ 32 0#32)) pads_S784x1000_S896x1024_01120_0240 h_S_

/-- The recurrent weights transposed, with 24 rows and 24 columns of zeros. -/
def wrecPad (w : FVec F S1000x1000 .f32) : FVec F S1024x1024 .f32 :=
  pad S1024x1024 ![0, 0] ![24, 24] ![0, 0] (transpose S1000x1000 [1, 0] w transposes_S1000x1000_S1000x1000_1_0)
    (sitofp .f32 (constantI S_ 32 0#32)) pads_S1000x1000_S1024x1024_0240_0240 h_S_

section Entry

variable (m : (ℓ : Loc nD τ sig) → Buf (Elt F) ℓ) (c : Dev nD)

set_option maxHeartbeats 1000000 in
/-- The kernel finds the padded input. -/
theorem V_x : Gen.V m c main_v0 = xPad (m ((c : Thread nD τ).loc main_arg0)) := by
  unfold Gen.V Gen.V0
  simp only [List.flatten_cons, List.flatten_nil, List.append_nil, List.cons_append, List.nil_append]
  after_results
  rfl

set_option maxHeartbeats 1000000 in
/-- The kernel finds the padded input weights. -/
theorem V_win : Gen.V m c main_v2 = winPad (m ((c : Thread nD τ).loc main_arg1)) := by
  unfold Gen.V Gen.V0
  simp only [List.flatten_cons, List.flatten_nil, List.append_nil, List.cons_append, List.nil_append]
  after_results
  rfl

set_option maxHeartbeats 1000000 in
/-- The kernel finds the padded recurrent weights. -/
theorem V_wrec : Gen.V m c main_v4 = wrecPad (m ((c : Thread nD τ).loc main_arg2)) := by
  unfold Gen.V Gen.V0
  simp only [List.flatten_cons, List.flatten_nil, List.append_nil, List.cons_append, List.nil_append]
  after_results
  rfl

end Entry

/-- The padding value is zero. -/
theorem fill : FloatOps.sitofp (F := Ideal) .f32 (0#32 : BitVec 32) = 0 := by
  show ((((0#32 : BitVec 32).toInt : ℤ) : ℝ) : EReal) = 0
  simp

/-- The padded input at an index. -/
theorem xPad_apply (x : FVec Ideal S8192x784 .f32) (r : Fin 8192) (k : Fin 896) :
    xPad x (ix2 r k) = if h : (k : ℕ) < 784 then x (ix2 r ⟨k, h⟩) else 0 := by
  pointwise [xPad]
  simp only [fill]

/-- The padded input weights at an index. -/
theorem winPad_apply (w : FVec Ideal S1000x784 .f32) (k : Fin 896) (j : Fin 1024) :
    winPad w (ix2 k j) = if h : (k : ℕ) < 784 ∧ (j : ℕ) < 1000 then w (ix2 ⟨j, h.2⟩ ⟨k, h.1⟩) else 0 := by
  pointwise [winPad]
  simp only [fill]

/-- The padded recurrent weights at an index. -/
theorem wrecPad_apply (w : FVec Ideal S1000x1000 .f32) (k j : Fin 1024) :
    wrecPad w (ix2 k j) = if h : (k : ℕ) < 1000 ∧ (j : ℕ) < 1000 then w (ix2 ⟨j, h.2⟩ ⟨k, h.1⟩) else 0 := by
  pointwise [wrecPad]
  simp only [fill]

end Cert.KernelIdeal.Padded

end
-- ==== Proof.Array.lean ====
module

public import proofs.«01_k».proof.Proof.BlockValue
public import proofs.«01_k».proof.Proof.Host
public import Idealize.ShloMosaic.Lib.Quiescent

@[expose] public section

set_option maxRecDepth 16384

noncomputable section

/-! The kernel's result: the array its blocks fill, and the slice of it that drops the padding columns. -/

namespace Cert.KernelIdeal.Rates

open Idealize.ShloMosaic Idealize.ShloMosaic.TcCoe Idealize.SL.Sem Cert.KernelIdeal Cert.Spec Cert.KernelIdeal.Padded
open Cert.KernelIdeal.Spikes (col sum_trunc block_apply)

variable (m : (ℓ : Loc nD τ sig) → Buf (Elt Ideal) ℓ) (c : Dev nD)

/-- The input as launched. -/
abbrev argX : FVec Ideal S8192x784 .f32 := m ((c : Thread nD τ).loc main_arg0)
/-- The input weights as launched. -/
abbrev argWin : FVec Ideal S1000x784 .f32 := m ((c : Thread nD τ).loc main_arg1)
/-- The recurrent weights as launched. -/
abbrev argWrec : FVec Ideal S1000x1000 .f32 := m ((c : Thread nD τ).loc main_arg2)

/-- Point `t` works on row block `t` of the input and of the result, and on the weights whole. -/
theorem idx : ∀ t : Fin cfg0.N, win0_0.index t = ![t.val, 0] ∧ win0_1.index t = ![0, 0] ∧ win0_2.index t = ![0, 0]
    ∧ win0_3.index t = ![t.val, 0] := by
  decide +kernel

/-- The input block of point `t`. -/
theorem x_apply (t : Fin cfg0.N) (a : Fin 256) (k : Fin 896) (h : 256 * t.val + a.val < 8192) :
    Gen.iblk m c 0 t (ix2 a k) = xPad (argX m c) (ix2 ⟨256 * t.val + a.val, h⟩ k) := by
  rw [← V_x]
  blk_ext [Gen.iblk, idx t]

/-- The input weights of point `t`. -/
theorem win_apply (t : Fin cfg0.N) (k : Fin 896) (j : Fin 1024) :
    Gen.iblk m c 1 t (ix2 k j) = winPad (argWin m c) (ix2 k j) := by
  rw [← V_win]
  blk_ext [Gen.iblk, idx t]

/-- The recurrent weights of point `t`. -/
theorem wrec_apply (t : Fin cfg0.N) (k j : Fin 1024) :
    Gen.iblk m c 2 t (ix2 k j) = wrecPad (argWrec m c) (ix2 k j) := by
  rw [← V_wrec]
  blk_ext [Gen.iblk, idx t]

/-- The block point `t` writes back, at row `a` and neuron `j`: the specification's rate at that row of the batch. -/
theorem point_apply (t : Fin cfg0.N) (a : Fin 256) (j : Fin 1000) (h : 256 * t.val + a.val < 8192) :
    Gen.out0_3 (Gen.iblk m c 0 t) (Gen.iblk m c 1 t) (Gen.iblk m c 2 t) (ix2 a (col j))
      = result (argX m c) (argWin m c) (argWrec m c) ⟨256 * t.val + a.val, h⟩ j := by
  refine block_apply (I := current (argX m c) (argWin m c) ⟨256 * t.val + a.val, h⟩) (W := weight (argWrec m c)) a
    (fun j => ?_) (fun k j => ?_) (fun k j hk => ?_) j
  · rw [sum_trunc (by omega : 784 ≤ 896) _ fun k hk => by
      rw [x_apply m c t a k h, xPad_apply, dif_neg (by omega), zero_mul]]
    exact Finset.sum_congr rfl fun k _ => by
      rw [x_apply m c t a _ h, win_apply, xPad_apply, winPad_apply, dif_pos (by exact k.isLt), dif_pos ⟨k.isLt, j.isLt⟩]
      rfl
  · rw [wrec_apply, wrecPad_apply, dif_pos ⟨k.isLt, j.isLt⟩]
    rfl
  · rw [wrec_apply, wrecPad_apply, dif_neg (by omega)]

/-- The array the blocks fill holds the specification's rate at every row and real neuron. -/
theorem final_apply (r : Fin 8192) (j : Fin 1000) :
    (Gen.dats m 0 c).arrAt 3 cfg0.N (ix2 r (col j)) = result (argX m c) (argWin m c) (argWrec m c) r j := by
  have key := (Gen.dats m 0 c).arrAt_forall_of_covers 3
    (fun i v => ∀ (r : Fin 8192) (j : Fin 1000), i = ix2 r (col j) → v = result (argX m c) (argWin m c) (argWrec m c) r j)
    (by decide +kernel) (fun t hf y r j hy => ?_) (ix2 r (col j))
  · exact key r j rfl
  · blk_simp
    rw [Gen.after0_3]
    obtain ⟨a, b, rfl⟩ : ∃ (a : Fin 256) (b : Fin 1024), y = ix2 a b := ⟨y 0, y 1, eq_ix2 y⟩
    have h0 := congrArg (fun i => (i 0 : ℕ)) hy
    have h1 := congrArg (fun i => (i 1 : ℕ)) hy
    blk_simp [idx t] at h0 h1
    obtain rfl : b = col j := Fin.ext h1
    have h : 256 * t.val + a.val < 8192 := by omega
    obtain rfl : r = ⟨256 * t.val + a.val, h⟩ := Fin.ext (by show (r : ℕ) = 256 * t.val + a.val; omega)
    exact point_apply m c t a j h

/-- What the host's slice after the kernel leaves in the result buffer: the array without its padding columns. -/
theorem tail : Pipeline.afterTail₀ cfgs (Gen.dats m) 0 (Gen.V0 m) [Gen.hostOps1] c main_v6
    = extractStridedSlice S8192x1000 ![0, 0] ((Gen.dats m 0 c).arrAt 3 cfg0.N : FVec Ideal S8192x1024 .f32)
        Facts₀.slices_S8192x1024_S8192x1000_0_0 := by
  unfold Pipeline.afterTail₀
  simp only [List.flatten_cons, List.flatten_nil, List.append_nil, List.cons_append, List.nil_append]
  after_results
  exact congrArg (fun X : FVec Ideal S8192x1024 .f32 => extractStridedSlice S8192x1000 ![0, 0] X
      Facts₀.slices_S8192x1024_S8192x1000_0_0)
    (Pipeline.withArrays_arr spec0 (by decide) c (Gen.V0 m c) (fun w => (Gen.dats m 0 c).arrAt w cfg0.N) 3)

/-- The kernel's result: at every row and neuron the specification's rate. -/
def out : FVec Ideal S8192x1000 .f32 := fun i => result (argX m c) (argWin m c) (argWrec m c) (i 0) (i 1)

/-- The result buffer ends at it. -/
theorem tail_eq : Pipeline.afterTail₀ cfgs (Gen.dats m) 0 (Gen.V0 m) [Gen.hostOps1] c main_v6 = out m c := by
  rw [tail]
  funext i
  rw [eq_ix2 i]
  pointwise []
  exact final_apply m c (i 0) (i 1)

/-- Every run of the kernel ends with the specification's rates in the result and the arguments as launched. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v6) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v6 (by decide)).trans (tail_eq m c), h.2 c⟩)
    (θ_run_and (Gen.run_main m ρ) (Gen.unchanged m ρ))

end Cert.KernelIdeal.Rates

end
-- ==== Proof.RefValue.lean ====
module

public import proofs.«01_k».proof.Proof.Gen.ReferenceIdeal.StepRun
public import proofs.«01_k».proof.Proof.Spec
public import Idealize.ShloMosaic.Lib.Pointwise
public import Idealize.ShloMosaic.Lib.Quiescent

@[expose] public section

set_option maxRecDepth 16384

noncomputable section

/-! What the reference computes on the extended reals: after 25 steps from rest, the specification's spike count over
    25, at every row and neuron. -/

namespace Cert.ReferenceIdeal.Rates

open Idealize.ShloMosaic Idealize.SL.Sem Cert.Spec Cert.ReferenceIdeal Cert.ReferenceIdeal.Gen Cert.ReferenceIdeal.Step

/-- A spike bit, converted, is the specification's spike. -/
theorem spike_word (v : EReal) :
    FloatOps.uitofp (F := Ideal) .f32 (BitVec.ofBool (decide (0 < v - 1))) = spike v := by
  unfold spike
  by_cases h : 0 < v - 1
  · rw [if_pos h, decide_eq_true h]
    show ((((BitVec.ofBool true).toNat : ℕ) : ℝ) : EReal) = 1
    simp
  · rw [if_neg h, decide_eq_false h]
    show ((((BitVec.ofBool false).toNat : ℕ) : ℝ) : EReal) = 0
    simp

/-- The new potential at an index, where the carried spikes are those of the carried potential. -/
theorem pot_step (n : ℕ) (s : State Ideal) (v I : Fin 1000 → EReal) (r : Fin 8192)
    (hv : ∀ j, s.main_v3_3 (ix2 r j) = v j) (hs : ∀ j, s.main_v3_4 (ix2 r j) = spike (v j))
    (hI : ∀ j, s.main_v3_1 (ix2 r j) = I j) (j : Fin 1000) :
    b17 n s (ix2 r j) = Spec.next I (weight s.main_v3_0) v j := by
  pointwise [b17, b16, b15, b14, b13, b12, b11, b10, b9, b8, b7, b6, b5, b4, b3, b2, b1, b0]
  simp only [hv, hs, hI, spike_word]
  rfl

/-- The new spikes are those of the new potential. -/
theorem spike_step (n : ℕ) (s : State Ideal) (r : Fin 8192) (j : Fin 1000) :
    b24 n s (ix2 r j) = spike (b17 n s (ix2 r j)) := by
  pointwise [b24, b23, b22, b21, b20, b19, b18]
  exact spike_word _

/-- The new sum adds the new spikes. -/
theorem sum_step (n : ℕ) (s : State Ideal) (r : Fin 8192) (j : Fin 1000) :
    b25 n s (ix2 r j) = s.main_v3_5 (ix2 r j) + b24 n s (ix2 r j) := by
  pointwise [b25]

/-- The input current the first trip finds. -/
theorem current_apply (x : FVec Ideal S8192x784 .f32) (win : FVec Ideal S1000x784 .f32) (r : Fin 8192) (j : Fin 1000) :
    A_main_v1 (F := Ideal) x win (ix2 r j) = current x win r j := by
  unfold current
  pointwise [A_main_v1, A_main_v0]

/-- The carried arrays start at zero. -/
theorem rest_apply (r : Fin 8192) (j : Fin 1000) : K_main_v2 (F := Ideal) (ix2 r j) = 0 := by
  pointwise [K_main_v2, K_main_cst]

variable (x : FVec Ideal S8192x784 .f32) (win : FVec Ideal S1000x784 .f32) (wrec : FVec Ideal S1000x1000 .f32)

/-- The reference's state after `n` trips. -/
def it : ℕ → State Ideal
  | 0 => init wrec x win
  | n + 1 => step n (it n)

/-- No trip changes the weights or the input current. -/
theorem it_const : ∀ n, (it x win wrec n).main_v3_0 = wrec ∧ (it x win wrec n).main_v3_1 = A_main_v1 x win
  | 0 => ⟨rfl, rfl⟩
  | n + 1 => it_const n

/-- After `n + 1` trips a row holds the specification's potentials, their spikes, and the count so far. -/
theorem it_apply (r : Fin 8192) : ∀ (n : ℕ) (j : Fin 1000),
    (it x win wrec (n + 1)).main_v3_3 (ix2 r j) = pot (current x win r) (weight wrec) n j
    ∧ (it x win wrec (n + 1)).main_v3_4 (ix2 r j) = spike (pot (current x win r) (weight wrec) n j)
    ∧ (it x win wrec (n + 1)).main_v3_5 (ix2 r j) = count (current x win r) (weight wrec) n j
  | 0, j => by
    have h : b17 0 (it x win wrec 0) (ix2 r j) = current x win r j :=
      (pot_step 0 (it x win wrec 0) (fun _ => 0) (current x win r) r (fun j => rest_apply r j)
        (fun j => (rest_apply r j).trans spike_zero.symm) (fun j => current_apply x win r j) j).trans (next_rest _ _ j)
    refine ⟨h, (spike_step _ _ r j).trans (congrArg spike h), (sum_step _ _ r j).trans ?_⟩
    rw [spike_step, h, show (it x win wrec 0).main_v3_5 (ix2 r j) = 0 from rest_apply r j, zero_add]
    rfl
  | n + 1, j => by
    have h : b17 (n + 1) (it x win wrec (n + 1)) (ix2 r j) = pot (current x win r) (weight wrec) (n + 1) j := by
      have := pot_step (n + 1) (it x win wrec (n + 1)) (pot (current x win r) (weight wrec) n) (current x win r) r
        (fun j => (it_apply r n j).1) (fun j => (it_apply r n j).2.1)
        (fun j => by rw [(it_const x win wrec (n + 1)).2]; exact current_apply x win r j) j
      rw [(it_const x win wrec (n + 1)).1] at this
      exact this
    refine ⟨h, (spike_step _ _ r j).trans (congrArg spike h), (sum_step _ _ r j).trans ?_⟩
    rw [spike_step, h, (it_apply r n j).2.2]
    rfl

/-- The reference's result at an index is the specification's firing rate. -/
theorem result_apply (r : Fin 8192) (j : Fin 1000) :
    R_main_v5 (it x win wrec 25) (ix2 r j)
      = result x win wrec r j := by
  have h := (it_apply x win wrec r 24 j).2.2
  show Ideal.div ((it x win wrec 25).main_v3_5 (ix2 r j)) (Ideal.ofBits .f32 0x41C80000#32) = _
  rw [h, Consts.steps, Ideal.div_coe (by norm_num), one_div]
  rfl

end Cert.ReferenceIdeal.Rates

end
-- ==== Proof.lean ====
module

public import proofs.«01_k».proof.Defs
public import proofs.«01_k».proof.Proof.Array
public import proofs.«01_k».proof.Proof.RefValue
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.StepRun
public import Idealize.ShloMosaic.Lib.Quiescent
public import Idealize.ShloMosaic.Adequacy
public import Idealize.ShloMosaic.Init

@[expose] public section

noncomputable section

/-! The five claims. Both programs' results are the specification's firing rates of their arguments: the kernel's by
    `Cert.KernelIdeal.Rates.run`, the reference's by `Cert.ReferenceIdeal.Rates.result_apply`. -/

namespace Cert.Proof

open Idealize.ShloMosaic Idealize.SL.Sem

/-- The kernel runs, leaves its arguments as they were and every semaphore at zero. -/
theorem frame_kernel : @Cert.quiescent_Kernel Cert.Kernel.Gen.facts := fun m ρ _ => Cert.Kernel.Gen.frame m ρ

/-- So does the idealized kernel. -/
theorem frame_ideal : @Cert.quiescent_KernelIdeal Cert.KernelIdeal.Gen.facts := fun m ρ _ => Cert.KernelIdeal.Gen.frame m ρ

/-- So does the reference, which has no semaphores. -/
theorem frame_reference : @Cert.quiescent_ReferenceIdeal Cert.ReferenceIdeal.Gen.facts := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The constant named `inv_steps` reads one twenty-fifth on the extended reals, wherever the idealized kernel has it. -/
theorem preserves : Cert.preserves_Kernel_KernelIdeal :=
  IdealRules.named_const.statement Cert.KernelIdeal.κ "inv_steps" .f32 0x3D23D70A#32 (((25 : ℝ)⁻¹ : ℝ) : EReal)
    Cert.KernelIdeal.Spikes.kappa_steps

/-- On the extended reals the kernel and the reference end with equal results. -/
theorem algebraic : @Cert.algebraic_KernelIdeal_ReferenceIdeal Cert.KernelIdeal.Gen.facts Cert.ReferenceIdeal.Gen.facts := by
  intro m ρ m' ρ' _ hagree
  refine ⟨fun c => Cert.KernelIdeal.Rates.out m c, Cert.KernelIdeal.Rates.run m ρ,
    (θ_run Cert.ReferenceIdeal.defs _ _).mono (fun r h c => ⟨(h c).1.trans ?_, (h c).2⟩)
      (Cert.ReferenceIdeal.StepRun.run_iter (F := Ideal) m' ρ'
        (fun c => Cert.ReferenceIdeal.Rates.it
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)))
        (fun _ => rfl) (fun _ _ => rfl))⟩
  obtain ⟨h0, h1, h2⟩ := hagree c
  rw [h0, h1, h2]
  funext i
  rw [eq_ix2 i]
  exact Cert.ReferenceIdeal.Rates.result_apply _ _ _ (i 0) (i 1)

/-- Every claim of the certificate. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
